-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v41)) (v4 : (c : Dev Cert.KernelIdeal.nD) → Buf (Elt Ideal) ((c.tc : Thread Cert.KernelIdeal.nD Cert.KernelIdeal.τ).loc Cert.KernelIdeal.main_v83)) (v5 : (c : Dev Cert.KernelIdeal.nD) → Buf (Elt Ideal) ((c.tc : Thread Cert.KernelIdeal.nD Cert.KernelIdeal.τ).loc Cert.KernelIdeal.main_v102)) (v6 : (c : Dev Cert.KernelIdeal.nD) → Buf (Elt Ideal) ((c.tc : Thread Cert.KernelIdeal.nD Cert.KernelIdeal.τ).loc Cert.KernelIdeal.main_v110)) (v7 : (c : Dev Cert.KernelIdeal.nD) → Buf (Elt Ideal) ((c.tc : Thread Cert.KernelIdeal.nD Cert.KernelIdeal.τ).loc Cert.KernelIdeal.main_cst_41)) (v8 : (c : Dev Cert.KernelIdeal.nD) → Buf (Elt Ideal) ((c.tc : Thread Cert.KernelIdeal.nD Cert.KernelIdeal.τ).loc Cert.KernelIdeal.main_v13)) (v9 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_v83) = v4 c
          ∧ r.2.mem ((c.tc : Thread Cert.KernelIdeal.nD Cert.KernelIdeal.τ).loc Cert.KernelIdeal.main_v102) = v5 c
          ∧ r.2.mem ((c.tc : Thread Cert.KernelIdeal.nD Cert.KernelIdeal.τ).loc Cert.KernelIdeal.main_v110) = v6 c
          ∧ r.2.mem ((c.tc : Thread Cert.KernelIdeal.nD Cert.KernelIdeal.τ).loc Cert.KernelIdeal.main_cst_41) = v7 c
          ∧ r.2.mem ((c.tc : Thread Cert.KernelIdeal.nD Cert.KernelIdeal.τ).loc Cert.KernelIdeal.main_v13) = v8 c
          ∧ r.2.mem ((c.tc : Thread Cert.KernelIdeal.nD Cert.KernelIdeal.τ).loc Cert.KernelIdeal.main_v2) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v104) = v5 c
          ∧ r.2.mem ((c.tc : Thread Cert.ReferenceIdeal.nD Cert.ReferenceIdeal.τ).loc Cert.ReferenceIdeal.main_v112) = v6 c
          ∧ r.2.mem ((c.tc : Thread Cert.ReferenceIdeal.nD Cert.ReferenceIdeal.τ).loc Cert.ReferenceIdeal.main_cst_42) = v7 c
          ∧ r.2.mem ((c.tc : Thread Cert.ReferenceIdeal.nD Cert.ReferenceIdeal.τ).loc Cert.ReferenceIdeal.main_v15) = v8 c
          ∧ r.2.mem ((c.tc : Thread Cert.ReferenceIdeal.nD Cert.ReferenceIdeal.τ).loc Cert.ReferenceIdeal.main_v4) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S16384x64 : Shape := ⟨2, ![16384, 64]⟩
abbrev S512x4096 : Shape := ⟨2, ![512, 4096]⟩
abbrev S512x64 : Shape := ⟨2, ![512, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S16384x8x1 : Shape := ⟨3, ![16384, 8, 1]⟩
abbrev S16384x8x2 : Shape := ⟨3, ![16384, 8, 2]⟩
abbrev S64x16384 : Shape := ⟨2, ![64, 16384]⟩
abbrev S64x2560 : Shape := ⟨2, ![64, 2560]⟩
abbrev S2560x64 : Shape := ⟨2, ![2560, 64]⟩
abbrev S64 : Shape := ⟨1, ![64]⟩
abbrev S1x64 : Shape := ⟨2, ![1, 64]⟩
abbrev S2560x64x1 : Shape := ⟨3, ![2560, 64, 1]⟩
abbrev S2560x64x2 : Shape := ⟨3, ![2560, 64, 2]⟩

abbrev nBuf : Space → Nat
  | .hbm => 167
  | .vmem => 5
  | .smem => 0
  | _ => 0

abbrev hbmTy0_0 (i : Nat) : BufTy := match i % 128 with
  | 0 => ⟨S4x4096x4096, .f32⟩
  | 1 => ⟨S64x4096, .f32⟩
  | 2 => ⟨S16384x4096, .f32⟩
  | 3 => ⟨S4096x64, .f32⟩
  | 4 => ⟨S16384x64, .f32⟩
  | 5 => ⟨S_, .f32⟩
  | 6 => ⟨S16384, .f32⟩
  | 7 => ⟨S_, .f32⟩
  | 8 => ⟨S16384, .f32⟩
  | 9 => ⟨S16384, .f32⟩
  | 10 => ⟨S16384x1, .f32⟩
  | 11 => ⟨S16384x64, .f32⟩
  | 12 => ⟨S16384x64, .f32⟩
  | 13 => ⟨S16384x64, .f32⟩
  | 14 => ⟨S_, .f32⟩
  | 15 => ⟨S16384, .f32⟩
  | 16 => ⟨S16384x1, .f32⟩
  | 17 => ⟨S16384x64, .f32⟩
  | 18 => ⟨S16384x64, .f32⟩
  | 19 => ⟨S16384x8, .f32⟩
  | 20 => ⟨S16384x8, .i32⟩
  | 21 => ⟨S16384, .i32⟩
  | 22 => ⟨S16384x1, .i32⟩
  | 23 => ⟨S_, .f32⟩
  | 24 => ⟨S16384x64, .f32⟩
  | 25 => ⟨S_, .i32⟩
  | 26 => ⟨S16384x1, .i32⟩
  | 27 => ⟨S16384x1, .i1⟩
  | 28 => ⟨S_, .i32⟩
  | 29 => ⟨S16384x1, .i32⟩
  | 30 => ⟨S16384x1, .i32⟩
  | 31 => ⟨S16384x1, .i32⟩
  | 32 => ⟨S_, .i32⟩
  | 33 => ⟨S16384x8, .i32⟩
  | 34 => ⟨S16384x8, .i1⟩
  | 35 => ⟨S_, .i32⟩
  | 36 => ⟨S16384x8, .i32⟩
  | 37 => ⟨S16384x8, .i32⟩
  | 38 => ⟨S16384x8, .i32⟩
  | 39 => ⟨S16384x8, .i32⟩
  | 40 => ⟨S16384x8x1, .i32⟩
  | 41 => ⟨S16384x8x1, .i32⟩
  | 42 => ⟨S16384x8x2, .i32⟩
  | 43 => ⟨S_, .f32⟩
  | 44 => ⟨S16384x8, .f32⟩
  | 45 => ⟨S16384x64, .f32⟩
  | 46 => ⟨S_, .f32⟩
  | 47 => ⟨S16384x64, .f32⟩
  | 48 => ⟨S16384x64, .i1⟩
  | 49 => ⟨S_, .f32⟩
  | 50 => ⟨S_, .f32⟩
  | 51 => ⟨S16384x64, .f32⟩
  | 52 => ⟨S16384x64, .f32⟩
  | 53 => ⟨S64x16384, .f32⟩
  | 54 => ⟨S64x2560, .f32⟩
  | 55 => ⟨S64x2560, .i32⟩
  | 56 => ⟨S2560x64, .f32⟩
  | 57 => ⟨S2560x64, .i32⟩
  | 58 => ⟨S2560x64, .f32⟩
  | 59 => ⟨S_, .f32⟩
  | 60 => ⟨S2560x64, .f32⟩
  | 61 => ⟨S2560x64, .i1⟩
  | 62 => ⟨S64, .i32⟩
  | 63 => ⟨S1x64, .i32⟩
  | 64 => ⟨S2560x64, .i32⟩
  | 65 => ⟨S_, .i32⟩
  | 66 => ⟨S16384x64, .i32⟩
  | 67 => ⟨S2560x64, .i32⟩
  | 68 => ⟨S_, .i32⟩
  | 69 => ⟨S2560x64, .i32⟩
  | 70 => ⟨S2560x64, .i1⟩
  | 71 => ⟨S_, .i32⟩
  | 72 => ⟨S2560x64, .i32⟩
  | 73 => ⟨S2560x64, .i32⟩
  | 74 => ⟨S2560x64, .i32⟩
  | 75 => ⟨S_, .i32⟩
  | 76 => ⟨S2560x64, .i32⟩
  | 77 => ⟨S2560x64, .i1⟩
  | 78 => ⟨S_, .i32⟩
  | 79 => ⟨S2560x64, .i32⟩
  | 80 => ⟨S2560x64, .i32⟩
  | 81 => ⟨S2560x64, .i32⟩
  | 82 => ⟨S2560x64x1, .i32⟩
  | 83 => ⟨S2560x64x1, .i32⟩
  | 84 => ⟨S2560x64x2, .i32⟩
  | 85 => ⟨S16384x64, .i32⟩
  | 86 => ⟨S16384x64, .f32⟩
  | 87 => ⟨S_, .f32⟩
  | 88 => ⟨S16384x64, .f32⟩
  | 89 => ⟨S16384x64, .i1⟩
  | 90 => ⟨S16384x64, .f32⟩
  | 91 => ⟨S16384x64, .f32⟩
  | 92 => ⟨S_, .f32⟩
  | 93 => ⟨S16384, .f32⟩
  | 94 => ⟨S16384x1, .f32⟩
  | 95 => ⟨S_, .f32⟩
  | 96 => ⟨S_, .f32⟩
  | 97 => ⟨S16384x1, .f32⟩
  | 98 => ⟨S16384x1, .f32⟩
  | 99 => ⟨S16384x64, .f32⟩
  | 100 => ⟨S16384x64, .f32⟩
  | 101 => ⟨S_, .f32⟩
  | 102 => ⟨S64, .f32⟩
  | 103 => ⟨S_, .f32⟩
  | 104 => ⟨S64, .f32⟩
  | 105 => ⟨S64, .f32⟩
  | 106 => ⟨S16384x64, .f32⟩
  | 107 => ⟨S_, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S64, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S16384, .f32⟩
  | 124 => ⟨S_, .f32⟩
  | 125 => ⟨S16384, .f32⟩
  | 126 => ⟨S16384, .f32⟩
  | 127 => ⟨S16384, .f32⟩
  | _ => ⟨S4x4096x4096, .f32⟩

abbrev hbmTy0_1 (i : Nat) : BufTy := match i % 128 with
  | 0 => ⟨S_, .f32⟩
  | 1 => ⟨S16384, .f32⟩
  | 2 => ⟨S16384, .i1⟩
  | 3 => ⟨S_, .f32⟩
  | 4 => ⟨S_, .f32⟩
  | 5 => ⟨S16384, .f32⟩
  | 6 => ⟨S16384, .f32⟩
  | 7 => ⟨S16384x1, .f32⟩
  | 8 => ⟨S16384x64, .f32⟩
  | 9 => ⟨S16384x64, .f32⟩
  | 10 => ⟨S16384x64, .f32⟩
  | 11 => ⟨S_, .f32⟩
  | 12 => ⟨S16384, .f32⟩
  | 13 => ⟨S16384, .f32⟩
  | 14 => ⟨S16384, .f32⟩
  | 15 => ⟨S16384, .f32⟩
  | 16 => ⟨S16384, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S16384x64, .f32⟩
  | 26 => ⟨S16384x64, .f32⟩
  | 27 => ⟨S16384x64, .f32⟩
  | 28 => ⟨S16384x64, .f32⟩
  | 29 => ⟨S_, .f32⟩
  | 30 => ⟨S16384, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S512x64, .f32⟩
  | .local _ .vmem, ⟨4, _⟩ => ⟨S512x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_v35 : Ref sig .tc := ⟨.hbm, 52, rfl⟩
abbrev main_v36 : Ref sig .tc := ⟨.hbm, 53, rfl⟩
abbrev main_values_9 : Ref sig .tc := ⟨.hbm, 54, rfl⟩
abbrev main_indices_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_c_13 : Ref sig .tc := ⟨.hbm, 68, rfl⟩
abbrev main_v47 : Ref sig .tc := ⟨.hbm, 69, rfl⟩
abbrev main_v48 : Ref sig .tc := ⟨.hbm, 70, rfl⟩
abbrev main_c_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_15 : Ref sig .tc := ⟨.hbm, 75, rfl⟩
abbrev main_v52 : Ref sig .tc := ⟨.hbm, 76, rfl⟩
abbrev main_v53 : Ref sig .tc := ⟨.hbm, 77, rfl⟩
abbrev main_c_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_call1_v0 : Ref sig .tc := ⟨.hbm, 96, rfl⟩
abbrev main_call1_v1 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_20 : Ref sig .tc := ⟨.hbm, 101, rfl⟩
abbrev main_v71 : Ref sig .tc := ⟨.hbm, 102, rfl⟩
abbrev main_cst_21 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_22 : Ref sig .tc := ⟨.hbm, 107, rfl⟩
abbrev main_v75 : Ref sig .tc := ⟨.hbm, 108, rfl⟩
abbrev main_cst_23 : Ref sig .tc := ⟨.hbm, 109, rfl⟩
abbrev main_v76 : Ref sig .tc := ⟨.hbm, 110, rfl⟩
abbrev main_v77 : Ref sig .tc := ⟨.hbm, 111, rfl⟩
abbrev main_cst_24 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_25 : Ref sig .tc := ⟨.hbm, 116, rfl⟩
abbrev main_v81 : Ref sig .tc := ⟨.hbm, 117, rfl⟩
abbrev main_cst_26 : Ref sig .tc := ⟨.hbm, 118, rfl⟩
abbrev main_v82 : Ref sig .tc := ⟨.hbm, 119, rfl⟩
abbrev main_cst_27 : Ref sig .tc := ⟨.hbm, 120, rfl⟩
abbrev main_v83 : Ref sig .tc := ⟨.hbm, 121, rfl⟩
abbrev main_cst_28 : Ref sig .tc := ⟨.hbm, 122, rfl⟩
abbrev main_v84 : Ref sig .tc := ⟨.hbm, 123, rfl⟩
abbrev main_cst_29 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_30 : Ref sig .tc := ⟨.hbm, 128, rfl⟩
abbrev main_v88 : Ref sig .tc := ⟨.hbm, 129, rfl⟩
abbrev main_v89 : Ref sig .tc := ⟨.hbm, 130, rfl⟩
abbrev main_cst_31 : Ref sig .tc := ⟨.hbm, 131, rfl⟩
abbrev main_call2_v0 : Ref sig .tc := ⟨.hbm, 132, rfl⟩
abbrev main_call2_v1 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_32 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_33 : Ref sig .tc := ⟨.hbm, 145, rfl⟩
abbrev main_v100 : Ref sig .tc := ⟨.hbm, 146, rfl⟩
abbrev main_cst_34 : Ref sig .tc := ⟨.hbm, 147, rfl⟩
abbrev main_v101 : Ref sig .tc := ⟨.hbm, 148, rfl⟩
abbrev main_cst_35 : Ref sig .tc := ⟨.hbm, 149, rfl⟩
abbrev main_v102 : Ref sig .tc := ⟨.hbm, 150, rfl⟩
abbrev main_cst_36 : Ref sig .tc := ⟨.hbm, 151, rfl⟩
abbrev main_call3_v0 : Ref sig .tc := ⟨.hbm, 152, rfl⟩
abbrev main_call3_v1 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_37 : Ref sig .tc := ⟨.hbm, 157, rfl⟩
abbrev main_v106 : Ref sig .tc := ⟨.hbm, 158, rfl⟩
abbrev main_cst_38 : Ref sig .tc := ⟨.hbm, 159, rfl⟩
abbrev main_v107 : Ref sig .tc := ⟨.hbm, 160, rfl⟩
abbrev main_cst_39 : Ref sig .tc := ⟨.hbm, 161, rfl⟩
abbrev main_v108 : Ref sig .tc := ⟨.hbm, 162, rfl⟩
abbrev main_v109 : Ref sig .tc := ⟨.hbm, 163, rfl⟩
abbrev main_cst_40 : Ref sig .tc := ⟨.hbm, 164, rfl⟩
abbrev main_v110 : Ref sig .tc := ⟨.hbm, 165, rfl⟩
abbrev main_cst_41 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S16384x8x1 : Shape := ⟨3, ![16384, 8, 1]⟩
abbrev S16384x8x2 : Shape := ⟨3, ![16384, 8, 2]⟩
abbrev S64x16384 : Shape := ⟨2, ![64, 16384]⟩
abbrev S64x2560 : Shape := ⟨2, ![64, 2560]⟩
abbrev S2560x64 : Shape := ⟨2, ![2560, 64]⟩
abbrev S64 : Shape := ⟨1, ![64]⟩
abbrev S1x64 : Shape := ⟨2, ![1, 64]⟩
abbrev S2560x64x1 : Shape := ⟨3, ![2560, 64, 1]⟩
abbrev S2560x64x2 : Shape := ⟨3, ![2560, 64, 2]⟩

abbrev nBuf : Space → Nat
  | .hbm => 170
  | .vmem => 0
  | .smem => 0
  | _ => 0

abbrev hbmTy0_0 (i : Nat) : BufTy := match i % 128 with
  | 0 => ⟨S4x4096x4096, .f32⟩
  | 1 => ⟨S64x4096, .f32⟩
  | 2 => ⟨S16384x4096, .f32⟩
  | 3 => ⟨S4096x64, .f32⟩
  | 4 => ⟨S16384x64, .f32⟩
  | 5 => ⟨S_, .f32⟩
  | 6 => ⟨S16384x64, .f32⟩
  | 7 => ⟨S16384x64, .f32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x64, .f32⟩
  | 15 => ⟨S16384x64, .f32⟩
  | 16 => ⟨S16384x64, .f32⟩
  | 17 => ⟨S_, .f32⟩
  | 18 => ⟨S16384, .f32⟩
  | 19 => ⟨S16384x1, .f32⟩
  | 20 => ⟨S16384x64, .f32⟩
  | 21 => ⟨S16384x64, .f32⟩
  | 22 => ⟨S16384x8, .f32⟩
  | 23 => ⟨S16384x8, .i32⟩
  | 24 => ⟨S16384, .i32⟩
  | 25 => ⟨S16384x1, .i32⟩
  | 26 => ⟨S_, .f32⟩
  | 27 => ⟨S16384x64, .f32⟩
  | 28 => ⟨S_, .i32⟩
  | 29 => ⟨S16384x1, .i32⟩
  | 30 => ⟨S16384x1, .i1⟩
  | 31 => ⟨S_, .i32⟩
  | 32 => ⟨S16384x1, .i32⟩
  | 33 => ⟨S16384x1, .i32⟩
  | 34 => ⟨S16384x1, .i32⟩
  | 35 => ⟨S_, .i32⟩
  | 36 => ⟨S16384x8, .i32⟩
  | 37 => ⟨S16384x8, .i1⟩
  | 38 => ⟨S_, .i32⟩
  | 39 => ⟨S16384x8, .i32⟩
  | 40 => ⟨S16384x8, .i32⟩
  | 41 => ⟨S16384x8, .i32⟩
  | 42 => ⟨S16384x8, .i32⟩
  | 43 => ⟨S16384x8x1, .i32⟩
  | 44 => ⟨S16384x8x1, .i32⟩
  | 45 => ⟨S16384x8x2, .i32⟩
  | 46 => ⟨S_, .f32⟩
  | 47 => ⟨S16384x8, .f32⟩
  | 48 => ⟨S16384x64, .f32⟩
  | 49 => ⟨S_, .f32⟩
  | 50 => ⟨S16384x64, .f32⟩
  | 51 => ⟨S16384x64, .i1⟩
  | 52 => ⟨S_, .f32⟩
  | 53 => ⟨S_, .f32⟩
  | 54 => ⟨S16384x64, .f32⟩
  | 55 => ⟨S16384x64, .f32⟩
  | 56 => ⟨S64x16384, .f32⟩
  | 57 => ⟨S64x2560, .f32⟩
  | 58 => ⟨S64x2560, .i32⟩
  | 59 => ⟨S2560x64, .f32⟩
  | 60 => ⟨S2560x64, .i32⟩
  | 61 => ⟨S2560x64, .f32⟩
  | 62 => ⟨S_, .f32⟩
  | 63 => ⟨S2560x64, .f32⟩
  | 64 => ⟨S2560x64, .i1⟩
  | 65 => ⟨S64, .i32⟩
  | 66 => ⟨S1x64, .i32⟩
  | 67 => ⟨S2560x64, .i32⟩
  | 68 => ⟨S_, .i32⟩
  | 69 => ⟨S16384x64, .i32⟩
  | 70 => ⟨S2560x64, .i32⟩
  | 71 => ⟨S_, .i32⟩
  | 72 => ⟨S2560x64, .i32⟩
  | 73 => ⟨S2560x64, .i1⟩
  | 74 => ⟨S_, .i32⟩
  | 75 => ⟨S2560x64, .i32⟩
  | 76 => ⟨S2560x64, .i32⟩
  | 77 => ⟨S2560x64, .i32⟩
  | 78 => ⟨S_, .i32⟩
  | 79 => ⟨S2560x64, .i32⟩
  | 80 => ⟨S2560x64, .i1⟩
  | 81 => ⟨S_, .i32⟩
  | 82 => ⟨S2560x64, .i32⟩
  | 83 => ⟨S2560x64, .i32⟩
  | 84 => ⟨S2560x64, .i32⟩
  | 85 => ⟨S2560x64x1, .i32⟩
  | 86 => ⟨S2560x64x1, .i32⟩
  | 87 => ⟨S2560x64x2, .i32⟩
  | 88 => ⟨S16384x64, .i32⟩
  | 89 => ⟨S16384x64, .f32⟩
  | 90 => ⟨S_, .f32⟩
  | 91 => ⟨S16384x64, .f32⟩
  | 92 => ⟨S16384x64, .i1⟩
  | 93 => ⟨S16384x64, .f32⟩
  | 94 => ⟨S16384x64, .f32⟩
  | 95 => ⟨S_, .f32⟩
  | 96 => ⟨S16384, .f32⟩
  | 97 => ⟨S16384x1, .f32⟩
  | 98 => ⟨S_, .f32⟩
  | 99 => ⟨S_, .f32⟩
  | 100 => ⟨S16384x1, .f32⟩
  | 101 => ⟨S16384x1, .f32⟩
  | 102 => ⟨S16384x64, .f32⟩
  | 103 => ⟨S16384x64, .f32⟩
  | 104 => ⟨S_, .f32⟩
  | 105 => ⟨S64, .f32⟩
  | 106 => ⟨S_, .f32⟩
  | 107 => ⟨S64, .f32⟩
  | 108 => ⟨S64, .f32⟩
  | 109 => ⟨S16384x64, .f32⟩
  | 110 => ⟨S_, .f32⟩
  | 111 => ⟨S64, .f32⟩
  | 112 => ⟨S_, .f32⟩
  | 113 => ⟨S64, .f32⟩
  | 114 => ⟨S64, .f32⟩
  | 115 => ⟨S_, .f32⟩
  | 116 => ⟨S64, .f32⟩
  | 117 => ⟨S64, .f32⟩
  | 118 => ⟨S64, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S16384, .f32⟩
  | 127 => ⟨S_, .f32⟩
  | _ => ⟨S4x4096x4096, .f32⟩

abbrev hbmTy0_1 (i : Nat) : BufTy := match i % 128 with
  | 0 => ⟨S16384, .f32⟩
  | 1 => ⟨S16384, .f32⟩
  | 2 => ⟨S16384, .f32⟩
  | 3 => ⟨S_, .f32⟩
  | 4 => ⟨S16384, .f32⟩
  | 5 => ⟨S16384, .i1⟩
  | 6 => ⟨S_, .f32⟩
  | 7 => ⟨S_, .f32⟩
  | 8 => ⟨S16384, .f32⟩
  | 9 => ⟨S16384, .f32⟩
  | 10 => ⟨S16384x1, .f32⟩
  | 11 => ⟨S16384x64, .f32⟩
  | 12 => ⟨S16384x64, .f32⟩
  | 13 => ⟨S16384x64, .f32⟩
  | 14 => ⟨S_, .f32⟩
  | 15 => ⟨S16384, .f32⟩
  | 16 => ⟨S16384, .f32⟩
  | 17 => ⟨S16384, .f32⟩
  | 18 => ⟨S16384, .f32⟩
  | 19 => ⟨S16384, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S16384x64, .f32⟩
  | 29 => ⟨S16384x64, .f32⟩
  | 30 => ⟨S16384x64, .f32⟩
  | 31 => ⟨S16384x64, .f32⟩
  | 32 => ⟨S_, .f32⟩
  | 33 => ⟨S16384, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_v37 : Ref sig .tc := ⟨.hbm, 55, rfl⟩
abbrev main_v38 : Ref sig .tc := ⟨.hbm, 56, rfl⟩
abbrev main_values_10 : Ref sig .tc := ⟨.hbm, 57, rfl⟩
abbrev main_indices_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_13 : Ref sig .tc := ⟨.hbm, 68, rfl⟩
abbrev main_v47 : Ref sig .tc := ⟨.hbm, 69, rfl⟩
abbrev main_v48 : Ref sig .tc := ⟨.hbm, 70, rfl⟩
abbrev main_c_14 : Ref sig .tc := ⟨.hbm, 71, rfl⟩
abbrev main_v49 : Ref sig .tc := ⟨.hbm, 72, rfl⟩
abbrev main_v50 : Ref sig .tc := ⟨.hbm, 73, rfl⟩
abbrev main_c_15 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_16 : Ref sig .tc := ⟨.hbm, 78, rfl⟩
abbrev main_v54 : Ref sig .tc := ⟨.hbm, 79, rfl⟩
abbrev main_v55 : Ref sig .tc := ⟨.hbm, 80, rfl⟩
abbrev main_c_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_call1_v0 : Ref sig .tc := ⟨.hbm, 99, rfl⟩
abbrev main_call1_v1 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_cst_22 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_23 : Ref sig .tc := ⟨.hbm, 110, rfl⟩
abbrev main_v77 : Ref sig .tc := ⟨.hbm, 111, rfl⟩
abbrev main_cst_24 : Ref sig .tc := ⟨.hbm, 112, rfl⟩
abbrev main_v78 : Ref sig .tc := ⟨.hbm, 113, rfl⟩
abbrev main_v79 : Ref sig .tc := ⟨.hbm, 114, rfl⟩
abbrev main_cst_25 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_26 : Ref sig .tc := ⟨.hbm, 119, rfl⟩
abbrev main_v83 : Ref sig .tc := ⟨.hbm, 120, rfl⟩
abbrev main_cst_27 : Ref sig .tc := ⟨.hbm, 121, rfl⟩
abbrev main_v84 : Ref sig .tc := ⟨.hbm, 122, rfl⟩
abbrev main_cst_28 : Ref sig .tc := ⟨.hbm, 123, rfl⟩
abbrev main_v85 : Ref sig .tc := ⟨.hbm, 124, rfl⟩
abbrev main_cst_29 : Ref sig .tc := ⟨.hbm, 125, rfl⟩
abbrev main_v86 : Ref sig .tc := ⟨.hbm, 126, rfl⟩
abbrev main_cst_30 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_31 : Ref sig .tc := ⟨.hbm, 131, rfl⟩
abbrev main_v90 : Ref sig .tc := ⟨.hbm, 132, rfl⟩
abbrev main_v91 : Ref sig .tc := ⟨.hbm, 133, rfl⟩
abbrev main_cst_32 : Ref sig .tc := ⟨.hbm, 134, rfl⟩
abbrev main_call2_v0 : Ref sig .tc := ⟨.hbm, 135, rfl⟩
abbrev main_call2_v1 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_33 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_34 : Ref sig .tc := ⟨.hbm, 148, rfl⟩
abbrev main_v102 : Ref sig .tc := ⟨.hbm, 149, rfl⟩
abbrev main_cst_35 : Ref sig .tc := ⟨.hbm, 150, rfl⟩
abbrev main_v103 : Ref sig .tc := ⟨.hbm, 151, rfl⟩
abbrev main_cst_36 : Ref sig .tc := ⟨.hbm, 152, rfl⟩
abbrev main_v104 : Ref sig .tc := ⟨.hbm, 153, rfl⟩
abbrev main_cst_37 : Ref sig .tc := ⟨.hbm, 154, rfl⟩
abbrev main_call3_v0 : Ref sig .tc := ⟨.hbm, 155, rfl⟩
abbrev main_call3_v1 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_38 : Ref sig .tc := ⟨.hbm, 160, rfl⟩
abbrev main_v108 : Ref sig .tc := ⟨.hbm, 161, rfl⟩
abbrev main_cst_39 : Ref sig .tc := ⟨.hbm, 162, rfl⟩
abbrev main_v109 : Ref sig .tc := ⟨.hbm, 163, rfl⟩
abbrev main_cst_40 : Ref sig .tc := ⟨.hbm, 164, rfl⟩
abbrev main_v110 : Ref sig .tc := ⟨.hbm, 165, rfl⟩
abbrev main_v111 : Ref sig .tc := ⟨.hbm, 166, rfl⟩
abbrev main_cst_41 : Ref sig .tc := ⟨.hbm, 167, rfl⟩
abbrev main_v112 : Ref sig .tc := ⟨.hbm, 168, rfl⟩
abbrev main_cst_42 : Ref sig .tc := ⟨.hbm, 169, rfl⟩

abbrev nD : Nat := 1
abbrev τ : Topo := Topo.v7x

variable {F : FTy → Type} [FloatOps F]
-- ==== Proof.Tail.lean ====
/-
  What both programs compute from the router logits, as functions of the logits: the gates, the routed scores, each
  expert's capacity slots, the assignments kept, the combine weights and the auxiliary losses. Each result of the kernel
  and of the reference is one of these functions at its program's logits (KernelTail.lean, RefTail.lean), and the logits
  are equal (Logits.lean).
-/
module

public import proofs.«01_k».proof.Proof.Gen.KernelIdeal

@[expose] public section

set_option maxRecDepth 16384

noncomputable section

open Idealize.ShloMosaic Idealize.ShloMosaic.TcCoe Idealize.SL.Sem

namespace Cert.Proof.Tail

open Cert.KernelIdeal Cert.KernelIdeal.Gen

variable {F : FTy → Type} [FloatOps F]

/-- Every index `i` of an axis of extent `n` is counted from the front: a negative one has `n` added. -/
def wrapIdx {s : Shape} (i zero n : IVec s 32) : IVec s 32 := select (cmpi .slt i zero) (addi i n) i

/-- Each row's largest entry, floored at −∞. -/
def rowMax (L : FVec F S16384x64 .f32) : FVec F S16384 .f32 :=
  maximumf (broadcastInDim S16384 ![] bcast_S_S16384 (constant S_ .f32 0xFF800000#32))
    (Host.reduce FloatOps.maximumf L (constant S_ .f32 0xFF800000#32) reducesTo_S16384x64_S16384_d1 h_S_)

/-- One number per row, laid along the row's 64 entries. -/
def alongRow (v : FVec F S16384 .f32) : FVec F S16384x64 .f32 :=
  broadcastInDim S16384x64 ![0, 1] bcast_S16384x1_S16384x64_0_1 (broadcastInDim S16384x1 ![0] bcast_S16384_S16384x1_0 v)

/-- Each row's sum. -/
def rowSum (A : FVec F S16384x64 .f32) : FVec F S16384 .f32 :=
  Host.reduceAdd A (constant S_ .f32 0x00000000#32) reducesTo_S16384x64_S16384_d1 h_S_

/-- Each column's mean over the 16384 rows. -/
def colMean (A : FVec F S16384x64 .f32) : FVec F S64 .f32 :=
  Host.divf (Host.reduceAdd A (constant S_ .f32 0x00000000#32) reducesTo_S16384x64_S64_d0 h_S_)
    (broadcastInDim S64 ![] bcast_S_S64 (constant S_ .f32 0x46800000#32))

/-- The mean of 16384 numbers. -/
def mean (v : FVec F S16384 .f32) : FVec F S_ .f32 :=
  Host.divf (Host.reduceAdd v (constant S_ .f32 0x00000000#32) reducesTo_S16384_S_d0 h_S_) (constant S_ .f32 0x46800000#32)

/-- The exponentials of the logits less their row's maximum. -/
def expShift (L : FVec F S16384x64 .f32) : FVec F S16384x64 .f32 := Host.exp (subf L (alongRow (rowMax L)))

/-- The gates: the softmax of each row of logits. -/
def gates (L : FVec F S16384x64 .f32) : FVec F S16384x64 .f32 := Host.divf (expShift L) (alongRow (rowSum (expShift L)))

/-- A row number and an expert number side by side, for each token's 8 choices. -/
def pairChoices (a b : IVec S16384x8x1 32) : IVec S16384x8x2 32 :=
  concatenate S16384x8x2 2 [⟨S16384x8x1, a⟩, ⟨S16384x8x1, b⟩] concatenates_S16384x8x1_S16384x8x1_S16384x8x2_d2

/-- The mask of each token's 8 largest gates: 1 where the expert is among them, else 0. -/
def choiceMask (g : FVec F S16384x64 .f32) : FVec F S16384x64 .f32 :=
  Host.scatter scatter_S16384x64_S16384x8x2_S16384x8_n_01_01_2 (fun _ b => b)
    (broadcastInDim S16384x64 ![] bcast_S_S16384x64 (constant S_ .f32 0x00000000#32))
    (pairChoices
      (broadcastInDim S16384x8x1 ![0, 1] bcast_S16384x8_S16384x8x1_0_1 (broadcastInDim S16384x8 ![0, 1] bcast_S16384x1_S16384x8_0_1
        (wrapIdx (broadcastInDim S16384x1 ![0] bcast_S16384_S16384x1_0 (iotaInDim S16384 32 0))
          (broadcastInDim S16384x1 ![] bcast_S_S16384x1 (constantI S_ 32 0#32))
          (broadcastInDim S16384x1 ![] bcast_S_S16384x1 (constantI S_ 32 16384#32)))))
      (broadcastInDim S16384x8x1 ![0, 1] bcast_S16384x8_S16384x8x1_0_1
        (wrapIdx (Host.topK S16384x8 1 (FloatOps.cmpfTotal .gt) g sliceFits_S16384x64_S16384x8).2
          (broadcastInDim S16384x8 ![] bcast_S_S16384x8 (constantI S_ 32 0#32))
          (broadcastInDim S16384x8 ![] bcast_S_S16384x8 (constantI S_ 32 64#32)))))
    (broadcastInDim S16384x8 ![] bcast_S_S16384x8 (constant S_ .f32 0x3F800000#32))

/-- The routed scores by expert: the gate where the token chose the expert, −∞ elsewhere; experts as rows. -/
def scores (g : FVec F S16384x64 .f32) : FVec F S64x16384 .f32 :=
  transpose S64x16384 [1, 0]
    (select (cmpf .ole (choiceMask g) (broadcastInDim S16384x64 ![] bcast_S_S16384x64 (constant S_ .f32 0x00000000#32)))
      (broadcastInDim S16384x64 ![] bcast_S_S16384x64 (constant S_ .f32 0xFF800000#32)) g)
    transposes_S16384x64_S64x16384_1_0

/-- The tokens of each expert's 2560 slots, best first; slots as rows. -/
def slotTokens (g : FVec F S16384x64 .f32) : IVec S2560x64 32 :=
  transpose S2560x64 [1, 0] (Host.topK S64x2560 1 (FloatOps.cmpfTotal .gt) (scores g) sliceFits_S64x16384_S64x2560).2
    transposes_S64x2560_S2560x64_1_0

/-- Which slots are filled: those whose score is finite. -/
def slotFilled (g : FVec F S16384x64 .f32) : IVec S2560x64 1 :=
  cmpf .olt
    (Host.absf (transpose S2560x64 [1, 0] (Host.topK S64x2560 1 (FloatOps.cmpfTotal .gt) (scores g) sliceFits_S64x16384_S64x2560).1
      transposes_S64x2560_S2560x64_1_0))
    (broadcastInDim S2560x64 ![] bcast_S_S2560x64 (constant S_ .f32 0x7F800000#32))

/-- A token number and an expert number side by side, for each slot. -/
def pairSlots (a b : IVec S2560x64x1 32) : IVec S2560x64x2 32 :=
  concatenate S2560x64x2 2 [⟨S2560x64x1, a⟩, ⟨S2560x64x1, b⟩] concatenates_S2560x64x1_S2560x64x1_S2560x64x2_d2

/-- The assignments kept: token and expert pairs that some filled slot holds. -/
def kept (g : FVec F S16384x64 .f32) : IVec S16384x64 1 :=
  cmpf (F := F) .ogt
    (sitofp .f32 (Host.scatter scatter_S16384x64_S2560x64x2_S2560x64_n_01_01_2 IntOp.maxsi
      (broadcastInDim S16384x64 ![] bcast_S_S16384x64 (constantI S_ 32 0#32))
      (pairSlots
        (broadcastInDim S2560x64x1 ![0, 1] bcast_S2560x64_S2560x64x1_0_1
          (wrapIdx (slotTokens g) (broadcastInDim S2560x64 ![] bcast_S_S2560x64 (constantI S_ 32 0#32))
            (broadcastInDim S2560x64 ![] bcast_S_S2560x64 (constantI S_ 32 16384#32))))
        (broadcastInDim S2560x64x1 ![0, 1] bcast_S2560x64_S2560x64x1_0_1
          (wrapIdx (broadcastInDim S2560x64 ![0, 1] bcast_S1x64_S2560x64_0_1
              (broadcastInDim S1x64 ![1] bcast_S64_S1x64_1 (iotaInDim S64 32 0)))
            (broadcastInDim S2560x64 ![] bcast_S_S2560x64 (constantI S_ 32 0#32))
            (broadcastInDim S2560x64 ![] bcast_S_S2560x64 (constantI S_ 32 64#32)))))
      (extui 32 (slotFilled g) natLt_1_32)))
    (broadcastInDim S16384x64 ![] bcast_S_S16384x64 (constant S_ .f32 0x00000000#32))

/-- The gates of the assignments kept, 0 elsewhere. -/
def keptGates (g : FVec F S16384x64 .f32) : FVec F S16384x64 .f32 := mulf g (uitofp .f32 (kept g))

/-- The combine weights: the kept gates over their row's sum, the sum floored at the constant 1e-9. -/
def combine (g : FVec F S16384x64 .f32) : FVec F S16384x64 .f32 :=
  Host.divf (keptGates g)
    (broadcastInDim S16384x64 ![0, 1] bcast_S16384x1_S16384x64_0_1
      (maximumf (broadcastInDim S16384x1 ![] bcast_S_S16384x1 (constant S_ .f32 0x3089705F#32))
        (broadcastInDim S16384x1 ![0] bcast_S16384_S16384x1_0 (rowSum (keptGates g)))))

/-- The load-balance loss: 64 times the sum over the experts of the mean gate times the mean kept share (over the 8
    choices), times its weight. -/
def loadBalance (g : FVec F S16384x64 .f32) : FVec F S_ .f32 :=
  mulf (mulf (constant S_ .f32 0x42800000#32)
      (Host.reduceAdd
        (mulf (colMean g)
          (Host.divf (colMean (uitofp .f32 (kept g))) (broadcastInDim S64 ![] bcast_S_S64 (constant S_ .f32 0x41000000#32))))
        (constant S_ .f32 0x00000000#32) reducesTo_S64_S_d0 h_S_))
    (constant S_ .f32 0x3C23D70A#32)

/-- The row maximum where it is finite, 0 elsewhere: the shift of the log-sum-exp. -/
def finiteMax (L : FVec F S16384x64 .f32) : FVec F S16384 .f32 :=
  select (cmpf .olt (Host.absf (rowMax L)) (broadcastInDim S16384 ![] bcast_S_S16384 (constant S_ .f32 0x7F800000#32)))
    (rowMax L) (broadcastInDim S16384 ![] bcast_S_S16384 (constant S_ .f32 0x00000000#32))

/-- The log of each row's sum of exponentials. -/
def logSumExp (L : FVec F S16384x64 .f32) : FVec F S16384 .f32 :=
  addf (Host.log (Host.absf (rowSum (Host.exp (subf L (alongRow (finiteMax L))))))) (finiteMax L)

/-- The z loss: the mean square of the log-sum-exps, times its weight. -/
def zLoss (L : FVec F S16384x64 .f32) : FVec F S_ .f32 :=
  mulf (mean (mulf (logSumExp L) (logSumExp L))) (constant S_ .f32 0x00000000#32)

/-- The entropy loss: the negated mean entropy sum of the gates, times its weight. -/
def entropyLoss (g : FVec F S16384x64 .f32) : FVec F S_ .f32 :=
  mulf (constant S_ .f32 0x80000000#32)
    (Host.negf (mean (rowSum (mulf
      (Host.log (maximumf (broadcastInDim S16384x64 ![] bcast_S_S16384x64 (constant S_ .f32 0x3089705F#32)) g)) g))))

end Cert.Proof.Tail

end
-- ==== Proof.Logits.lean ====
/-
  The router logits: the tiled product the kernel's region leaves in its output array is ONE product of all 16384 token
  rows with the transposed weights, at the ideal values.

  The grid has 32 points; point `t` multiplies rows `512 t … 512 t + 511` of the tokens by the whole transposed weight
  matrix, contracting all 4096 features at once, and writes the 512 × 64 tile to the same rows of the result. So an entry
  of a tile is the same sum of 4096 products as the entry of the whole product at its place (`tile_apply`), and the
  tiles fill the result (`final_logits`). The reference divides its product by the temperature 1 (`div_one_splat`).
-/
module

public import proofs.«01_k».proof.Proof.Gen.KernelIdeal.Frame
public import Idealize.ShloMosaic.Lib.Pipeline.ValueKit
public import Idealize.ShloMosaic.Lib.StackMember
public import Idealize.ShloMosaic.Lib.KernelVsHost
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Logits

open Cert.KernelIdeal Cert.KernelIdeal.Gen

/-- All tokens' router logits as one product: the tokens flattened to 16384 rows of 4096 features, times the transposed
    weights. -/
def logits (x : Vec Ideal S4x4096x4096 .f32) (w : Vec Ideal S64x4096 .f32) : Vec Ideal S16384x64 .f32 :=
  Host.dotGeneral (F := Ideal) (φ₁ := .f32) (φ₂ := .f32) (DotDims.plain 16384 4096 64) none
    (shapeCast S16384x4096 x shapeCasts_S4x4096x4096_S16384x4096)
    (transpose S4096x64 [1, 0] w transposes_S64x4096_S4096x64_1_0)

/-- One tile's entry: the kernel's product of a block of rows `a` with `b` is the sum over the features of the products. -/
theorem tile_apply (a : Vec Ideal S512x4096 .f32) (b : Vec Ideal S4096x64 .f32) (r : Fin 512) (e : Fin 64) :
    k0_pay1 a b (ValueIdx.ix2 r e) = ∑ k : Fin 4096, a (ValueIdx.ix2 r k) * b (ValueIdx.ix2 k e) := by
  unfold k0_pay1
  rw [shapeCast_self, shapeCast_self, matmul_zero_eq_dotGeneral]
  exact StackMember.dotGeneral_plain_apply none a b r e

variable (m : (ℓ : Loc nD τ sig) → Buf (Elt Ideal) ℓ)

/-- Where the windows' blocks lie at each point: the token rows and the result's rows advance with the point, the weights
    stay. -/
theorem idx : ∀ t : Fin cfg0.N, win0_0.index t = ![t.val, 0] ∧ win0_1.index t = ![0, 0] ∧ win0_2.index t = ![t.val, 0] :=
  (by decide +kernel : ∀ t : Fin grid0.N, _)

/-- Row `r` of the token block at point `t` is row `512 t + r` of the array, for any contents of the array. -/
theorem read_tokens (c : Dev nD) (t : Fin cfg0.N) (X : Buf (Elt Ideal) ((c : Thread nD τ).loc main_v0)) (r : Fin 512)
    (h : t.val * 512 + r.val < 16384) (k : Fin 4096) :
    ((cfg0.win 0).blk t).view.read (Elt Ideal) X (ValueIdx.ix2 r k) = X (ValueIdx.ix2 (⟨t.val * 512 + r.val, h⟩ : Fin 16384) k) := by
  blk_ext [idx t]

/-- The weights' block at every point is the whole array, for any contents of the array. -/
theorem read_weights (c : Dev nD) (t : Fin cfg0.N) (X : Buf (Elt Ideal) ((c : Thread nD τ).loc main_v1)) (k : Fin 4096)
    (e : Fin 64) : ((cfg0.win 1).blk t).view.read (Elt Ideal) X (ValueIdx.ix2 k e) = X (ValueIdx.ix2 k e) := by
  blk_ext [idx t]

/-- The tokens as the region finds them: the argument flattened to rows. -/
theorem entry_tokens (c : Dev nD) : V m c main_v0
    = shapeCast S16384x4096 (m ((c : Thread nD τ).loc main_arg0)) shapeCasts_S4x4096x4096_S16384x4096 := by
  show StableHlo.after hostOps0 (fun b => m (c, b)) (Proc.devRef .tc _) = _
  unfold hostOps0
  after_results_simp <;> rfl

/-- The weights as the region finds them: the argument transposed. -/
theorem entry_weights (c : Dev nD) : V m c main_v1
    = transpose S4096x64 [1, 0] (m ((c : Thread nD τ).loc main_arg1)) transposes_S64x4096_S4096x64_1_0 := by
  show StableHlo.after hostOps0 (fun b => m (c, b)) (Proc.devRef .tc _) = _
  unfold hostOps0
  after_results_simp <;> rfl

/-- The region's output array ends at the one product: every point writes its tile of it, and the tiles fill the array. -/
theorem final_logits (c : Dev nD) : (dats m 0 c).arrAt 2 cfg0.N
    = logits (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, e, rfl⟩ : ∃ (r : Fin 512) (e : Fin 64), y = ValueIdx.ix2 r e :=
    ⟨y 0, y 1, funext fun a => by match a with | ⟨0, _⟩ => rfl | ⟨1, _⟩ => rfl⟩
  have ht : t.val < 32 := lt_of_lt_of_eq t.isLt N_0
  have place : (((cfg0.win 2).blk t).view.emb (ValueIdx.ix2 r e) : S16384x64.Idx)
      = ValueIdx.ix2 (⟨t.val * 512 + r.val, by omega⟩ : Fin 16384) e := by
    blk_ext [idx t]
  refine (tile_apply _ _ r e).trans (Eq.trans ?_ (congrArg (logits _ _) place).symm)
  refine Eq.trans ?_ (StackMember.dotGeneral_plain_apply none _ _ _ e).symm
  refine Finset.sum_congr rfl fun k _ => ?_
  rw [← entry_tokens m c, ← entry_weights m c]
  exact congrArg₂ (· * ·) (read_tokens c t (V m c main_v0) r _ k) (read_weights c t (V m c main_v1) k e)

end Cert.Proof.Logits

end
-- ==== Proof.KernelTail.lean ====
/-
  The kernel's results, as Tail.lean's functions of the region's output.
-/
module

public import proofs.«01_k».proof.Proof.Tail
public import proofs.«01_k».proof.Proof.Gen.KernelIdeal.Frame
public import proofs.«01_k».proof.Proof.Logits
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.Proof.KernelTail

open Cert.KernelIdeal Cert.KernelIdeal.Gen

/-- The operations of the score mask's `where`, over plain buffers. -/
abbrev whereScores : List (HloOp τ sig (Elt Ideal)) :=
  [unary main_cst_8 main_call0_v0 id,
   unary main_call0_v0 main_call0_v1 (broadcastInDim S16384x64 ![] bcast_S_S16384x64),
   ternary main_v34 main_call0_v1 main_v13 main_v35 select]

/-- The operations of the denominator's `clip`, over plain buffers. -/
abbrev clipDenominator : List (HloOp τ sig (Elt Ideal)) :=
  [unary main_cst_19 main_call1_v0 id,
   unary main_call1_v0 main_call1_v1 (broadcastInDim S16384x1 ![] bcast_S_S16384x1),
   binary main_call1_v1 main_v67 main_v68 (maximumf (F := Ideal) (s := S16384x1) (φ := .f32))]

/-- The operations of the row maximum's `where`, over plain buffers. -/
abbrev whereMax : List (HloOp τ sig (Elt Ideal)) :=
  [unary main_cst_31 main_call2_v0 id,
   unary main_call2_v0 main_call2_v1 (broadcastInDim S16384 ![] bcast_S_S16384),
   ternary main_v89 main_v86 main_call2_v1 main_v90 select]

/-- The operations of the gates' `clip`, over plain buffers. -/
abbrev clipGates : List (HloOp τ sig (Elt Ideal)) :=
  [unary main_cst_36 main_call3_v0 id,
   unary main_call3_v0 main_call3_v1 (broadcastInDim S16384x64 ![] bcast_S_S16384x64),
   binary main_call3_v1 main_v13 main_v103 (maximumf (F := Ideal) (s := S16384x64) (φ := .f32))]

/-- The host operations after the region, in one line; the two that lay a pair of index arrays side by side are spelt by
    their names, and the called functions' operations over plain buffers. -/
abbrev line : List (HloOp τ sig (Elt Ideal)) :=
  hostOps1.set 37 (binary main_v28 main_v29 main_v30 Tail.pairChoices) ++ (whereScores
  ++ (hostOps1_2.set 31 (binary main_v57 main_v58 main_v59 Tail.pairSlots) ++ (clipDenominator
  ++ (hostOps1_4 ++ (whereMax ++ (hostOps1_6 ++ (clipGates ++ hostOps1_8)))))))

/-- It is the generated lines one after the other. -/
theorem line_eq : ([hostOps1, hostOps1_1, hostOps1_2, hostOps1_3, hostOps1_4, hostOps1_5, hostOps1_6, hostOps1_7, hostOps1_8]
    : List (List (HloOp τ sig (Elt Ideal)))).flatten = line := rfl

set_option maxRecDepth 65536 in
/-- What the line leaves in each result buffer, from any contents `W`, whose logits are at the region's output. -/
theorem reads (W : Valuation τ sig (Elt Ideal)) (L : FVec Ideal S16384x64 .f32) (hL : W (Proc.devRef .tc main_v2) = L) :
    after line W (Proc.devRef .tc main_v70) = Tail.combine (Tail.gates L)
    ∧ after line W (Proc.devRef .tc main_v63) = Tail.kept (F := Ideal) (Tail.gates L)
    ∧ after line W (Proc.devRef .tc main_v38) = Tail.slotTokens (F := Ideal) (Tail.gates L)
    ∧ after line W (Proc.devRef .tc main_v41) = Tail.slotFilled (F := Ideal) (Tail.gates L)
    ∧ after line W (Proc.devRef .tc main_v83) = Tail.loadBalance (Tail.gates L)
    ∧ after line W (Proc.devRef .tc main_v102) = Tail.zLoss L
    ∧ after line W (Proc.devRef .tc main_v110) = Tail.entropyLoss (Tail.gates L)
    ∧ after line W (Proc.devRef .tc main_cst_41) = constant (F := Ideal) S_ .f32 0x00000000#32
    ∧ after line W (Proc.devRef .tc main_v13) = Tail.gates L := by
  subst hL
  refine ⟨?_, ?_, ?_, ?_, ?_, ?_, ?_, ?_, ?_⟩ <;> (after_reads_simp; first | done | rfl)

end Cert.Proof.KernelTail

end
-- ==== Proof.KernelRun.lean ====
/-
  The kernel's run at the ideal values: where it ends, each of the ten results is Tail.lean's function of the one
  product `Logits.logits` of the arguments, and the arguments are unchanged.
-/
module

public import proofs.«01_k».proof.Proof.KernelTail

@[expose] public section

set_option maxRecDepth 16384

noncomputable section

open Idealize.ShloMosaic Idealize.ShloMosaic.TcCoe Idealize.SL.Sem

namespace Cert.Proof.KernelRun

open Cert.KernelIdeal Cert.KernelIdeal.Gen

variable (m : (ℓ : Loc nD τ sig) → Buf (Elt Ideal) ℓ) (ρ : Dev nD → PrngReg)

/-- The logits of device `c`'s arguments. -/
def L (c : Dev nD) : FVec Ideal S16384x64 .f32 :=
  Logits.logits (m ((c : Thread nD τ).loc main_arg0)) (m ((c : Thread nD τ).loc main_arg1))

/-- The buffers of device `c` where the region ends: as the lines before it leave them, but the windows' arrays at their
    final contents. -/
abbrev exit (c : Dev nD) : Valuation τ sig (Elt Ideal) :=
  Pipeline.withArrays cfg0.spec c (V0 m c) fun w => (dats m 0 c).arrAt w cfg0.N

/-- There, the region's output holds the logits. -/
theorem exit_logits (c : Dev nD) : exit m c (Proc.devRef .tc main_v2) = L m c :=
  (Pipeline.withArrays_arr cfg0.spec (by decide) c (V0 m c) _ 2).trans (Logits.final_logits m c)

/-- What the lines after the region leave in a buffer is what the one line leaves there from the region's exit. -/
theorem tail_eq (c : Dev nD) (b : Ref sig .tc) :
    Pipeline.afterTail₀ cfgs (dats m) 0 (V0 m)
        [hostOps1, hostOps1_1, hostOps1_2, hostOps1_3, hostOps1_4, hostOps1_5, hostOps1_6, hostOps1_7, hostOps1_8] c b
      = StableHlo.after KernelTail.line (exit m c) (Proc.devRef .tc b) := by
  unfold Pipeline.afterTail₀
  rw [KernelTail.line_eq]

/-- The kernel's run: every result at its function of the logits, the arguments unchanged. -/
theorem run : θ_run defs (onTc (τ := τ) (main (F := Ideal))) ⟨m, fun _ => 0, ρ⟩ fun r => ∀ c : Dev nD,
      r.2.mem ((c.tc : Thread nD τ).loc main_v70) = Tail.combine (Tail.gates (L m c))
      ∧ r.2.mem ((c.tc : Thread nD τ).loc main_v63) = Tail.kept (F := Ideal) (Tail.gates (L m c))
      ∧ r.2.mem ((c.tc : Thread nD τ).loc main_v38) = Tail.slotTokens (F := Ideal) (Tail.gates (L m c))
      ∧ r.2.mem ((c.tc : Thread nD τ).loc main_v41) = Tail.slotFilled (F := Ideal) (Tail.gates (L m c))
      ∧ r.2.mem ((c.tc : Thread nD τ).loc main_v83) = Tail.loadBalance (Tail.gates (L m c))
      ∧ r.2.mem ((c.tc : Thread nD τ).loc main_v102) = Tail.zLoss (L m c)
      ∧ r.2.mem ((c.tc : Thread nD τ).loc main_v110) = Tail.entropyLoss (Tail.gates (L m c))
      ∧ r.2.mem ((c.tc : Thread nD τ).loc main_cst_41) = constant (F := Ideal) S_ .f32 0x00000000#32
      ∧ r.2.mem ((c.tc : Thread nD τ).loc main_v13) = Tail.gates (L m c)
      ∧ r.2.mem ((c.tc : Thread nD τ).loc main_v2) = L m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨hF, hA⟩ := h
    have hT : ∀ b : Ref sig .tc, b ∈ Pipeline.restRefs sig cfg0.spec →
        r.2.mem ((c.tc : Thread nD τ).loc b) = StableHlo.after KernelTail.line (exit m c) (Proc.devRef .tc b) :=
      fun b hb => ((hF c).2 b hb).trans (tail_eq m c b)
    obtain ⟨h0, h1, h2, h3, h4, h5, h6, h7, h8⟩ := KernelTail.reads (exit m c) (L m c) (exit_logits m c)
    refine ⟨(hT _ ?_).trans h0, (hT _ ?_).trans h1, (hT _ ?_).trans h2, (hT _ ?_).trans h3, (hT _ ?_).trans h4,
      (hT _ ?_).trans h5, (hT _ ?_).trans h6, (hT _ ?_).trans h7, (hT _ ?_).trans h8,
      ((hF c).1 2).trans (Logits.final_logits m c), hA c⟩ <;>
    exact Pipeline.mem_restRefs_of _ (by decide) (by decide))
    (θ_run_and (run_main m ρ) (unchanged m ρ))

end Cert.Proof.KernelRun

end
-- ==== Proof.RefTail.lean ====
/-
  The reference's results, as Tail.lean's functions of its logits: its generated run states each result as one composed
  term of the arguments, and each term is by definition such a function.
-/
module

public import proofs.«01_k».proof.Proof.Tail
public import proofs.«01_k».proof.Proof.Logits
public import Idealize.ShloMosaic.Lib.IdealHost
public import proofs.«01_k».proof.Proof.Gen.ReferenceIdeal.Run

@[expose] public section

set_option maxRecDepth 16384

noncomputable section

open Idealize.ShloMosaic Idealize.ShloMosaic.TcCoe Idealize.SL.Sem

namespace Cert.Proof.RefTail

open Cert.ReferenceIdeal Cert.ReferenceIdeal.Gen Cert.ReferenceIdeal.Value

variable (m : (ℓ : Loc nD τ sig) → Buf (Elt Ideal) ℓ) (c : Dev nD)

/-- The reference's logits: its product over the temperature 1. -/
def refLogits : FVec Ideal S16384x64 .f32 :=
  Host.divf (Host.dotGeneral (F := Ideal) (φ₁ := .f32) (φ₂ := .f32) dot_S16384x4096_S4096x64_S16384x64_1_0_0_1_n_n none
      (shapeCast S16384x4096 (m ((c.tc : Thread nD τ).loc main_arg0)) shapeCasts_S4x4096x4096_S16384x4096)
      (transpose S4096x64 [1, 0] (m ((c.tc : Thread nD τ).loc main_arg1)) transposes_S64x4096_S4096x64_1_0))
    (broadcastInDim S16384x64 ![] bcast_S_S16384x64 (constant S_ .f32 0x3F800000#32))

/-- Over the extended reals, dividing by 1 changes nothing. -/
theorem div_one (x : EReal) : Ideal.div x 1 = x := by
  unfold Ideal.div
  rw [if_neg one_ne_zero, inv_one, mul_one]

/-- At the ideal values the reference's logits are the one product. -/
theorem refLogits_eq : refLogits m c
    = Logits.logits (m ((c.tc : Thread nD τ).loc main_arg0)) (m ((c.tc : Thread nD τ).loc main_arg1)) := by
  funext i
  show Ideal.div _ (Ideal.ofBits .f32 0x3F800000#32) = _
  rw [Ideal.ofBits_one_f32, div_one]
  rfl

/-- Each result the run states by a composed term, in the order returned: the combine weights, the assignments kept, the
    slots' tokens, the filled slots, the load-balance loss, the z loss, the entropy loss. -/
theorem outs : res_out0 m c = Tail.combine (Tail.gates (refLogits m c))
    ∧ res_out1 m c = Tail.kept (F := Ideal) (Tail.gates (refLogits m c))
    ∧ res_out2 m c = Tail.slotTokens (F := Ideal) (Tail.gates (refLogits m c))
    ∧ res_out3 m c = Tail.slotFilled (F := Ideal) (Tail.gates (refLogits m c))
    ∧ res_out4 m c = Tail.loadBalance (Tail.gates (refLogits m c))
    ∧ res_out5 m c = Tail.zLoss (refLogits m c)
    ∧ res_out6 m c = Tail.entropyLoss (Tail.gates (refLogits m c)) := by
  unfold res_out0 res_out1 res_out2 res_out3 res_out4 res_out5 res_out6
    res_main_v72 res_main_v65 res_main_v40 res_main_v43 res_main_v85 res_main_v104 res_main_v112
  refine ⟨?_, ?_, ?_, ?_, ?_, ?_, ?_⟩ <;> rfl

end Cert.Proof.RefTail

end
-- ==== Proof.RefRun.lean ====
/-
  The reference's run at the ideal values: the same functions of the same product.
-/
module

public import proofs.«01_k».proof.Proof.RefTail
public import Idealize.ShloMosaic.Lib.Quiescent

@[expose] public section

set_option maxRecDepth 16384

noncomputable section

open Idealize.ShloMosaic Idealize.ShloMosaic.TcCoe Idealize.SL.Sem

namespace Cert.Proof.RefRun

open Cert.ReferenceIdeal Cert.ReferenceIdeal.Gen Cert.ReferenceIdeal.Value

variable (m : (ℓ : Loc nD τ sig) → Buf (Elt Ideal) ℓ) (ρ : Dev nD → PrngReg)

/-- The reference's run: where the arguments' product is `L`, every result is its function of `L`, and the arguments are
    unchanged. -/
theorem run (L : Dev nD → FVec Ideal S16384x64 .f32) (hL : ∀ c, RefTail.refLogits m c = L c) :
    θ_run defs (onTc (τ := τ) (main (F := Ideal))) ⟨m, fun _ => 0, ρ⟩ fun r => ∀ c : Dev nD,
      r.2.mem ((c.tc : Thread nD τ).loc main_v72) = Tail.combine (Tail.gates (L c))
      ∧ r.2.mem ((c.tc : Thread nD τ).loc main_v65) = Tail.kept (F := Ideal) (Tail.gates (L c))
      ∧ r.2.mem ((c.tc : Thread nD τ).loc main_v40) = Tail.slotTokens (F := Ideal) (Tail.gates (L c))
      ∧ r.2.mem ((c.tc : Thread nD τ).loc main_v43) = Tail.slotFilled (F := Ideal) (Tail.gates (L c))
      ∧ r.2.mem ((c.tc : Thread nD τ).loc main_v85) = Tail.loadBalance (Tail.gates (L c))
      ∧ r.2.mem ((c.tc : Thread nD τ).loc main_v104) = Tail.zLoss (L c)
      ∧ r.2.mem ((c.tc : Thread nD τ).loc main_v112) = Tail.entropyLoss (Tail.gates (L c))
      ∧ r.2.mem ((c.tc : Thread nD τ).loc main_cst_42) = constant (F := Ideal) S_ .f32 0x00000000#32
      ∧ r.2.mem ((c.tc : Thread nD τ).loc main_v15) = Tail.gates (L c)
      ∧ r.2.mem ((c.tc : Thread nD τ).loc main_v4) = L c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h1, h2, h3, h4, h5, h6, h7, h8, h9, ha⟩ := h c
    obtain ⟨o0, o1, o2, o3, o4, o5, o6⟩ := RefTail.outs m c
    rw [hL c] at o0 o1 o2 o3 o4 o5 o6
    have hg : r.2.mem ((c.tc : Thread nD τ).loc main_v15) = Tail.gates (RefTail.refLogits m c) := h8
    have hl : r.2.mem ((c.tc : Thread nD τ).loc main_v4) = RefTail.refLogits m c := h9
    rw [hL c] at hg hl
    exact ⟨h0.trans o0, h1.trans o1, h2.trans o2, h3.trans o3, h4.trans o4, h5.trans o5, h6.trans o6, h7, hg, hl, ha⟩)
    (Value.run m ρ)

/-- The reference terminates with its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2.2.2.2.2.2, sem_eq_zero_of_no_sems (by decide) r.2⟩)
    (run m ρ (RefTail.refLogits m) fun _ => rfl)

end Cert.Proof.RefRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.ShloMosaic.TcCoe Idealize.SL.Sem

/-- From arguments that agree, both programs end with each result at one function of the arguments' product. -/
theorem algebraic : Cert.algebraic_KernelIdeal_ReferenceIdeal := fun m g m' g' _ hagree =>
  ⟨fun c => Tail.combine (Tail.gates (KernelRun.L m c)), fun c => Tail.kept (F := Ideal) (Tail.gates (KernelRun.L m c)),
    fun c => Tail.slotTokens (F := Ideal) (Tail.gates (KernelRun.L m c)),
    fun c => Tail.slotFilled (F := Ideal) (Tail.gates (KernelRun.L m c)),
    fun c => Tail.loadBalance (Tail.gates (KernelRun.L m c)), fun c => Tail.zLoss (KernelRun.L m c),
    fun c => Tail.entropyLoss (Tail.gates (KernelRun.L m c)),
    fun _ => constant (F := Ideal) Cert.KernelIdeal.S_ .f32 0x00000000#32,
    fun c => Tail.gates (KernelRun.L m c), fun c => KernelRun.L m c,
    KernelRun.run m g,
    RefRun.run m' g' (KernelRun.L m) fun c => (RefTail.refLogits_eq m' c).trans
      (congrArg₂ Logits.logits (hagree c).1 (hagree c).2)⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => RefRun.frame m ρ, trivial, algebraic⟩

end Cert.Proof

end
